-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_in_range [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_in_range [hPre_counts_in_range : Cert.Pre_counts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_counts_in_range [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_counts_in_range [hReferenceIdeal : Cert.ReferenceIdeal.Facts] [hPre_counts_in_range : Cert.Pre_counts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_counts_in_range [hKernelIdeal : Cert.KernelIdeal.Facts] [hReferenceIdeal : Cert.ReferenceIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_counts_in_range : Cert.Pre_counts_in_range.Facts),
    quiescent_Kernel (hKernel := hKernel)
    ∧ quiescent_KernelIdeal (hKernelIdeal := hKernelIdeal)
    ∧ quiescent_KernelIdeal_pre_counts_in_range (hKernelIdeal := hKernelIdeal) (hPre_counts_in_range := hPre_counts_in_range)
    ∧ quiescent_ReferenceIdeal (hReferenceIdeal := hReferenceIdeal)
    ∧ quiescent_ReferenceIdeal_pre_counts_in_range (hReferenceIdeal := hReferenceIdeal) (hPre_counts_in_range := hPre_counts_in_range)
    ∧ preserves_Kernel_KernelIdeal
    ∧ algebraic_KernelIdeal_ReferenceIdeal_pre_counts_in_range (hKernelIdeal := hKernelIdeal) (hReferenceIdeal := hReferenceIdeal) (hPre_counts_in_range := hPre_counts_in_range)
-- ==== Pre_counts_in_range.lean ====
abbrev S64x512x768 : Shape := ⟨3, ![64, 512, 768]⟩
abbrev S64x255 : Shape := ⟨2, ![64, 255]⟩
abbrev S_ : Shape := ⟨0, ![]⟩

class Facts : Prop where
  bcast_S_S64x255 : S_.BroadcastsInDim S64x255 (![] : Fin 0 → Fin S64x255.rank)
  reducesTo_S64x255_S_d0_1 : S64x255.ReducesTo [0, 1] S_
  h_S_ : 0 < S_.numel

variable [Facts]

def fn {F : FTy → Type} [FloatOps F] (main_arg0 : FVec F S64x512x768 .f32) (main_arg1 : IVec S64x255 32) : IVec S_ 1 :=
  let main_c : IVec S_ 32 := constantI S_ 32 1#32
  let main_v0 : IVec S64x255 32 := broadcastInDim S64x255 ![] bcast_S_S64x255 main_c
  let main_v1 : IVec S64x255 1 := cmpi .sge main_arg1 main_v0
  let main_c_0 : IVec S_ 32 := constantI S_ 32 2#32
  let main_v2 : IVec S64x255 32 := broadcastInDim S64x255 ![] bcast_S_S64x255 main_c_0
  let main_v3 : IVec S64x255 1 := cmpi .sle main_arg1 main_v2
  let main_v4 : IVec S64x255 1 := andi main_v1 main_v3
  let main_c_1 : IVec S_ 1 := constantI S_ 1 1#1
  let main_v5 : IVec S_ 1 := (fun x v => Host.reduce IntOp.andi x v reducesTo_S64x255_S_d0_1 h_S_) main_v4 main_c_1
  main_v5
-- ==== Kernel.lean ====
abbrev S64x512x768 : Shape := ⟨3, ![64, 512, 768]⟩
abbrev S64x255 : Shape := ⟨2, ![64, 255]⟩
abbrev S64x1x255 : Shape := ⟨3, ![64, 1, 255]⟩
abbrev S64x255x768 : Shape := ⟨3, ![64, 255, 768]⟩
abbrev S8x512x768 : Shape := ⟨3, ![8, 512, 768]⟩
abbrev S8x1x255 : Shape := ⟨3, ![8, 1, 255]⟩
abbrev S8x255x768 : Shape := ⟨3, ![8, 255, 768]⟩
abbrev S255x255 : Shape := ⟨2, ![255, 255]⟩
abbrev S512x255 : Shape := ⟨2, ![512, 255]⟩
abbrev S1x512x768 : Shape := ⟨3, ![1, 512, 768]⟩
abbrev S512x768 : Shape := ⟨2, ![512, 768]⟩
abbrev S1x1x255 : Shape := ⟨3, ![1, 1, 255]⟩
abbrev S1x255 : Shape := ⟨2, ![1, 255]⟩
abbrev S255x768 : Shape := ⟨2, ![255, 768]⟩
abbrev S1x255x768 : Shape := ⟨3, ![1, 255, 768]⟩

abbrev nBuf : Space → Nat
  | .hbm => 4
  | .vmem => 6
  | .smem => 0
  | _ => 0

abbrev bufTy : (tb : Table) → Fin (tcTables nBuf tb) → BufTy
  | .hbm, ⟨0, _⟩ => ⟨S64x512x768, .f32⟩
  | .hbm, ⟨1, _⟩ => ⟨S64x255, .i32⟩
  | .hbm, ⟨2, _⟩ => ⟨S64x1x255, .i32⟩
  | .hbm, ⟨3, _⟩ => ⟨S64x255x768, .f32⟩
  | .local _ .vmem, ⟨0, _⟩ => ⟨S8x512x768, .f32⟩
  | .local _ .vmem, ⟨1, _⟩ => ⟨S8x512x768, .f32⟩
  | .local _ .vmem, ⟨2, _⟩ => ⟨S8x1x255, .i32⟩
  | .local _ .vmem, ⟨3, _⟩ => ⟨S8x1x255, .i32⟩
  | .local _ .vmem, ⟨4, _⟩ => ⟨S8x255x768, .f32⟩
  | .local _ .vmem, ⟨5, _⟩ => ⟨S8x255x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x255 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x255x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x512x768 : Shape := ⟨3, ![64, 512, 768]⟩
abbrev S64x255 : Shape := ⟨2, ![64, 255]⟩
abbrev S64x510x768 : Shape := ⟨3, ![64, 510, 768]⟩
abbrev S_ : Shape := ⟨0, ![]⟩
abbrev S510 : Shape := ⟨1, ![510]⟩
abbrev S64x255x1 : Shape := ⟨3, ![64, 255, 1]⟩
abbrev S1x1x510 : Shape := ⟨3, ![1, 1, 510]⟩
abbrev S64x255x510 : Shape := ⟨3, ![64, 255, 510]⟩
abbrev S64x510 : Shape := ⟨2, ![64, 510]⟩
abbrev S64 : Shape := ⟨1, ![64]⟩
abbrev S64x1 : Shape := ⟨2, ![64, 1]⟩
abbrev S32640 : Shape := ⟨1, ![32640]⟩
abbrev S32640x768 : Shape := ⟨2, ![32640, 768]⟩
abbrev S16384x768 : Shape := ⟨2, ![16384, 768]⟩
abbrev S32640x1 : Shape := ⟨2, ![32640, 1]⟩
abbrev S64x256x768 : Shape := ⟨3, ![64, 256, 768]⟩
abbrev S64x255x768 : Shape := ⟨3, ![64, 255, 768]⟩

abbrev nBuf : Space → Nat
  | .hbm => 34
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x255, .i32⟩
  | .hbm, ⟨2, _⟩ => ⟨S64x510x768, .f32⟩
  | .hbm, ⟨3, _⟩ => ⟨S_, .i32⟩
  | .hbm, ⟨4, _⟩ => ⟨S_, .i32⟩
  | .hbm, ⟨5, _⟩ => ⟨S64x255, .i32⟩
  | .hbm, ⟨6, _⟩ => ⟨S510, .i32⟩
  | .hbm, ⟨7, _⟩ => ⟨S64x255x1, .i32⟩
  | .hbm, ⟨8, _⟩ => ⟨S1x1x510, .i32⟩
  | .hbm, ⟨9, _⟩ => ⟨S64x255x510, .i32⟩
  | .hbm, ⟨10, _⟩ => ⟨S64x255x510, .i32⟩
  | .hbm, ⟨11, _⟩ => ⟨S64x255x510, .i1⟩
  | .hbm, ⟨12, _⟩ => ⟨S64x255x510, .i32⟩
  | .hbm, ⟨13, _⟩ => ⟨S_, .i32⟩
  | .hbm, ⟨14, _⟩ => ⟨S64x510, .i32⟩
  | .hbm, ⟨15, _⟩ => ⟨S64, .i32⟩
  | .hbm, ⟨16, _⟩ => ⟨S64x1, .i32⟩
  | .hbm, ⟨17, _⟩ => ⟨S_, .i32⟩
  | .hbm, ⟨18, _⟩ => ⟨S64x1, .i32⟩
  | .hbm, ⟨19, _⟩ => ⟨S64x1, .i32⟩
  | .hbm, ⟨20, _⟩ => ⟨S64x510, .i32⟩
  | .hbm, ⟨21, _⟩ => ⟨S64x510, .i32⟩
  | .hbm, ⟨22, _⟩ => ⟨S32640, .i32⟩
  | .hbm, ⟨23, _⟩ => ⟨S32640x768, .f32⟩
  | .hbm, ⟨24, _⟩ => ⟨S_, .f32⟩
  | .hbm, ⟨25, _⟩ => ⟨S16384x768, .f32⟩
  | .hbm, ⟨26, _⟩ => ⟨S32640x1, .i32⟩
  | .hbm, ⟨27, _⟩ => ⟨S16384x768, .f32⟩
  | .hbm, ⟨28, _⟩ => ⟨S64x256x768, .f32⟩
  | .hbm, ⟨29, _⟩ => ⟨S64x255x768, .f32⟩
  | .hbm, ⟨30, _⟩ => ⟨S64x255x1, .i32⟩
  | .hbm, ⟨31, _⟩ => ⟨S64x255x1, .f32⟩
  | .hbm, ⟨32, _⟩ => ⟨S64x255x768, .f32⟩
  | .hbm, ⟨33, _⟩ => ⟨S64x255x768, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_call0_c : Ref sig .tc := ⟨.hbm, 3, rfl⟩
abbrev main_call0_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.Spans.lean ====
/-
  The mathematics of pooling a row of pieces into words, with no program in it. Word `v` owns `c v` consecutive pieces;
  the pieces of word `w` begin after those of the words before it. Facts: how many words have ended at a given piece
  names the word that owns it; a sum over all pieces that keeps one word's pieces is the sum over that word's span.
-/
module

public import Mathlib.Algebra.BigOperators.Intervals
public import Mathlib.Data.Nat.Count
public import Mathlib.Data.EReal.Operations
public import Mathlib.Algebra.Order.BigOperators.Group.Finset

@[expose] public section

noncomputable section

namespace Cert.Pool

/-- The number of pieces owned by the words before word `w`. -/
def before (c : ℕ → ℕ) (w : ℕ) : ℕ := ∑ v ∈ Finset.range w, c v

/-- Passing word `w` adds its own pieces. -/
theorem before_succ (c : ℕ → ℕ) (w : ℕ) : before c (w + 1) = before c w + c w := Finset.sum_range_succ c w

/-- The pieces before a word grow with the word. -/
theorem before_mono (c : ℕ → ℕ) {a b : ℕ} (h : a ≤ b) : before c a ≤ before c b :=
  Finset.sum_le_sum_of_subset (Finset.range_mono h)

/-- With at most two pieces a word, at most `2 * w` pieces come before word `w`. -/
theorem before_le (c : ℕ → ℕ) (N : ℕ) (hc : ∀ v < N, c v ≤ 2) : ∀ w ≤ N, before c w ≤ 2 * w
  | 0, _ => by simp [before]
  | w + 1, h => by
    have := before_le c N hc w (by omega)
    have := hc w (by omega)
    rw [before_succ]
    omega

/-- The number of words, of the first `N`, whose last piece lies before piece `t`. -/
def ended (c : ℕ → ℕ) (N t : ℕ) : ℕ := Nat.count (fun v => before c (v + 1) ≤ t) N

/-- At most `N` of `N` words have ended. -/
theorem ended_le (c : ℕ → ℕ) (N t : ℕ) : ended c N t ≤ N := Nat.count_le _

/-- Up to word `w` exactly all words have ended, when piece `t` lies past all of them. -/
theorem ended_of_le (c : ℕ → ℕ) (t : ℕ) : ∀ w, before c w ≤ t → ended c w t = w
  | 0, _ => by simp [ended]
  | w + 1, h => by
    have hw : before c w ≤ t := (before_mono c (Nat.le_succ w)).trans h
    have := ended_of_le c t w hw
    unfold ended at this ⊢
    rw [Nat.count_succ, this, if_pos h]

/-- A word that ends past piece `t` stops the count: no word from it on has ended at `t`. -/
theorem ended_of_lt (c : ℕ → ℕ) (t w : ℕ) (h : t < before c (w + 1)) : ∀ k, ended c (w + k) t = ended c w t
  | 0 => rfl
  | k + 1 => by
    have := ended_of_lt c t w h k
    unfold ended at this ⊢
    have late := before_mono c (show w + 1 ≤ w + k + 1 by omega)
    rw [← Nat.add_assoc, Nat.count_succ, this, if_neg (by omega), Nat.add_zero]

/-- PIECE `t` BELONGS TO WORD `w` exactly when `w` words have ended at it. -/
theorem ended_eq_iff (c : ℕ → ℕ) (N t w : ℕ) (hw : w < N) :
    ended c N t = w ↔ before c w ≤ t ∧ t < before c w + c w := by
  rw [← before_succ]
  have stop : ∀ v < N, t < before c (v + 1) → ended c N t = ended c v t := fun v hv h => by
    obtain ⟨k, rfl⟩ := Nat.exists_eq_add_of_le hv.le
    exact ended_of_lt c t v h k
  constructor
  · intro h
    constructor
    · by_contra hlt
      have hpos : w ≠ 0 := by
        rintro rfl
        simp [before] at hlt
      obtain ⟨u, rfl⟩ := Nat.exists_eq_succ_of_ne_zero hpos
      have e := stop u (by omega) (Nat.lt_of_not_le hlt)
      have := ended_le c u t
      omega
    · by_contra hge
      have hge := Nat.le_of_not_lt hge
      have e := ended_of_le c t (w + 1) hge
      have : ended c (w + 1) t ≤ ended c N t := Nat.count_monotone _ hw
      omega
  · rintro ⟨h1, h2⟩
    rw [stop w hw h2, ended_of_le c t w h1]

/-- THE MEAN over word `w`'s pieces of what piece `p` (counted from 1: piece 0 is the mark at the row's head) carries. -/
def mean (c : ℕ → ℕ) (f : ℕ → EReal) (w : ℕ) : EReal :=
  (∑ k ∈ Finset.range (c w), f (before c w + k + 1)) * ((1 / (c w : ℝ) : ℝ) : EReal)

/-- Keeping, of `M` pieces, those of word `w` sums over its span. -/
theorem sum_span (c : ℕ → ℕ) (f : ℕ → EReal) (M w : ℕ) (h : before c w + c w ≤ M) :
    (∑ t ∈ Finset.range M, if before c w ≤ t ∧ t < before c w + c w then f t else 0)
      = ∑ k ∈ Finset.range (c w), f (before c w + k) := by
  have span : (Finset.range M).filter (fun t => before c w ≤ t ∧ t < before c w + c w)
      = Finset.Ico (before c w) (before c w + c w) := by
    ext t
    simp only [Finset.mem_filter, Finset.mem_range, Finset.mem_Ico]
    omega
  rw [← Finset.sum_filter, span, Finset.sum_Ico_eq_sum_range, Nat.add_sub_cancel_left]

/-- A row of weights with `p` at place `a`, `q` at the next place and zero elsewhere takes two entries. -/
theorem sum_two (f : ℕ → EReal) (p q : EReal) (M a : ℕ) (h : a + 1 < M) :
    (∑ t ∈ Finset.range M, (if t = a then p else if t = a + 1 then q else 0) * f t) = p * f a + q * f (a + 1) := by
  have split : ∀ t ∈ Finset.range M, (if t = a then p else if t = a + 1 then q else 0) * f t
      = (if t = a then p * f a else 0) + if t = a + 1 then q * f (a + 1) else 0 := fun t _ => by
    by_cases h1 : t = a
    · subst h1
      rw [if_pos rfl, if_pos rfl, if_neg (by omega), add_zero]
    · by_cases h2 : t = a + 1
      · subst h2
        rw [if_neg h1, if_pos rfl, if_neg h1, if_pos rfl, zero_add]
      · rw [if_neg h1, if_neg h2, if_neg h1, if_neg h2, zero_mul, add_zero]
  rw [Finset.sum_congr rfl split, Finset.sum_add_distrib, Finset.sum_ite_eq', Finset.sum_ite_eq',
    if_pos (Finset.mem_range.2 (by omega)), if_pos (Finset.mem_range.2 h)]

/-- THE TWO WEIGHTS GIVE THE MEAN: for a word of one or two pieces, weight `1 / c w` on its first piece and
    `(c w - 1) / c w` on the next one make the mean over the word, whatever the pieces carry. -/
theorem weights_mean (c : ℕ → ℕ) (f : ℕ → EReal) (w : ℕ) (h1 : 1 ≤ c w) (h2 : c w ≤ 2) :
    ((1 / (c w : ℝ) : ℝ) : EReal) * f (before c w + 1)
      + ((((c w : ℝ) - 1) * (1 / (c w : ℝ)) : ℝ) : EReal) * f (before c w + 2) = mean c f w := by
  unfold mean
  obtain e | e : c w = 1 ∨ c w = 2 := by omega
  · rw [e, Finset.sum_range_one]
    norm_num
  · rw [e, Finset.sum_range_succ, Finset.sum_range_one,
      EReal.right_distrib_of_nonneg_of_ne_top (EReal.coe_nonneg.2 (by norm_num)) (EReal.coe_ne_top _)]
    norm_num
    rw [EReal.mul_comm (f (before c w + 1)), EReal.mul_comm (f (before c w + 1 + 1))]

end Cert.Pool

end
-- ==== Proof.KernelRow.lean ====
/-
  One row of the kernel's block: whatever the eight copies of the row's code look like, each is the same function of the
  row's pieces and counts, and under counts of one or two pieces a word that function's entry (w, e) is the mean over
  word w's pieces of their entry e.
-/
module

public import proofs.«01_k».proof.Proof.Gen.KernelIdeal.Frame
public import proofs.«01_k».proof.Proof.Spans
public import Idealize.ShloMosaic.Lib.Pointwise
public import Idealize.ShloMosaic.Lib.WordCmp

@[expose] public section

set_option maxRecDepth 16384

noncomputable section

namespace Cert.KernelIdeal.Pool

open Cert.KernelIdeal Cert.KernelIdeal.Gen Cert.Pool
open Idealize.ShloMosaic Idealize.ShloMosaic.TcCoe Idealize.SL.Sem

/-- A word that holds a natural below half the range converts to that natural. -/
theorem sitofp_ofNat (k : ℕ) (h : k < 2 ^ 31) :
    FloatOps.sitofp (F := Ideal) FTy.f32 (BitVec.ofNat 32 k) = ((k : ℝ) : EReal) := by
  show (((BitVec.ofNat 32 k).toInt : ℝ) : EReal) = _
  rw [WordCmp.toInt_ofNat_of_lt (w := 32) h, Int.cast_natCast]

/-- Rounding a natural and converting it to a word gives the word that holds it. -/
theorem fptosi_round_nat (k : ℕ) (h : k < 2 ^ 31) :
    FloatOps.fptosi (F := Ideal) (φ := .f32) 32 (Ideal.liftRound Ideal.roundHalfEven ((k : ℝ) : EReal)) = BitVec.ofNat 32 k := by
  have e : Ideal.roundHalfEven (k : ℝ) = (k : ℤ) := by
    unfold Ideal.roundHalfEven
    simp
  show Ideal.fptosi 32 _ = _
  rw [Ideal.liftRound_coe, e, Ideal.fptosi, Ideal.toIntClamped_coe, Int.cast_natCast, if_pos (Nat.cast_nonneg k),
    Int.floor_natCast, show max (-((2 ^ (32 - 1) : ℕ) : ℤ)) (min (((2 ^ (32 - 1) : ℕ) : ℤ) - 1) (k : ℤ)) = (k : ℤ) by omega]
  exact BitVec.ofInt_natCast 32 k

/-- A column of the triangle of ones: the widened bit of `x ≤ w`, as a number. -/
theorem tri_entry (x w : ℕ) (hx : x < 2 ^ 31) (hw : w < 2 ^ 31) :
    FloatOps.sitofp (F := Ideal) FTy.f32 (BitVec.setWidth 32 (IntOp.cmpi CmpIPredicate.sle (BitVec.ofNat 32 x) (BitVec.ofNat 32 w)))
      = (((if x ≤ w then 1 else 0 : ℕ) : ℝ) : EReal) := by
  rw [WordCmp.cmpi_sle_ofNat (w := 32) hx hw]
  by_cases h : x ≤ w
  · rw [if_pos h, decide_eq_true h]
    exact sitofp_ofNat 1 (by norm_num)
  · rw [if_neg h, decide_eq_false h]
    exact sitofp_ofNat 0 (by norm_num)

/-- The counts times the triangle of ones: the sum over the words up to `w` is what comes before word `w + 1`. -/
theorem prefix_sum (c : ℕ → ℕ) (n : Fin 255 → BitVec 32) (hn : ∀ v : Fin 255, n v = BitVec.ofNat 32 (c v)) (h2 : ∀ v < 255, c v ≤ 2)
    (w : Fin 255) :
    (∑ x : Fin 255, FloatOps.sitofp (F := Ideal) FTy.f32 (n x)
        * FloatOps.sitofp (F := Ideal) FTy.f32 (BitVec.setWidth 32 (IntOp.cmpi CmpIPredicate.sle (BitVec.ofNat 32 x) (BitVec.ofNat 32 w))) : EReal)
      = ((before c (w + 1) : ℝ) : EReal) := by
  have term : ∀ x : Fin 255, (FloatOps.sitofp (F := Ideal) FTy.f32 (n x)
        * FloatOps.sitofp (F := Ideal) FTy.f32 (BitVec.setWidth 32 (IntOp.cmpi CmpIPredicate.sle (BitVec.ofNat 32 x) (BitVec.ofNat 32 w))) : EReal)
      = ((if (x : ℕ) ≤ w then c x else 0 : ℕ) : EReal) := fun x => by
    have := h2 x x.isLt
    rw [hn, sitofp_ofNat _ (by omega), tri_entry _ _ (by omega) (by omega), ← EReal.coe_mul, ← Nat.cast_mul]
    split
    · rw [Nat.mul_one]; rfl
    · rw [Nat.mul_zero]; rfl
  rw [Finset.sum_congr rfl fun x _ => term x, Fin.sum_univ_eq_sum_range (fun x => ((if x ≤ (w : ℕ) then c x else 0 : ℕ) : EReal)) 255,
    ← Nat.cast_sum, ← Finset.sum_filter]
  have keep : (Finset.range 255).filter (fun x => x ≤ (w : ℕ)) = Finset.range (w + 1) := by
    ext x
    simp only [Finset.mem_filter, Finset.mem_range]
    omega
  rw [keep]
  rfl

/-- THE FIRST COLUMN the kernel computes for word `w`: one past the pieces of the words before it. -/
theorem column (c : ℕ → ℕ) (n : Fin 255 → BitVec 32) (hn : ∀ v : Fin 255, n v = BitVec.ofNat 32 (c v)) (h2 : ∀ v < 255, c v ≤ 2)
    (w : Fin 255) :
    FloatOps.fptosi (F := Ideal) (φ := .f32) 32 (Ideal.liftRound Ideal.roundHalfEven
        ((∑ x : Fin 255, FloatOps.sitofp (F := Ideal) FTy.f32 (n x)
            * FloatOps.sitofp (F := Ideal) FTy.f32 (BitVec.setWidth 32 (IntOp.cmpi CmpIPredicate.sle (BitVec.ofNat 32 x) (BitVec.ofNat 32 w))) : EReal)
          - FloatOps.sitofp (F := Ideal) FTy.f32 (n w) + 1))
      = BitVec.ofNat 32 (before c w + 1) := by
  have := h2 w w.isLt
  have lt := before_le c 255 h2 w w.isLt.le
  have e : ((before c (w + 1) : ℝ) : EReal) - ((c w : ℝ) : EReal) + 1 = (((before c w + 1 : ℕ) : ℝ) : EReal) := by
    rw [← EReal.coe_sub, ← EReal.coe_one, ← EReal.coe_add]
    congr 1
    rw [before_succ]
    push_cast
    ring
  rw [prefix_sum c n hn h2 w, hn w, sitofp_ofNat _ (by omega), e, fptosi_round_nat _ (by omega)]

/-- ONE ROW OF THE KERNEL: with counts of one or two pieces a word, entry `(w, e)` is the mean over word `w`'s pieces. -/
theorem row_mean (x : Vec Ideal S1x512x768 .f32) (n : Vec Ideal S1x1x255 .i32) (c : ℕ → ℕ) (f : ℕ → EReal) (w : Fin 255) (e : Fin 768)
    (hn : ∀ v : Fin 255, n (ix3 0 0 v) = BitVec.ofNat 32 (c v)) (hc : ∀ v < 255, 1 ≤ c v ∧ c v ≤ 2)
    (hf : ∀ t : Fin 512, x (ix3 0 t e) = f t) : k0_pay3 (F := Ideal) x n (ix3 0 w e) = mean c f w := by
  have h1 := (hc w w.isLt).1
  have h2 := (hc w w.isLt).2
  have lt := before_le c 255 (fun v hv => (hc v hv).2) w w.isLt.le
  have hw := w.isLt
  pointwise [k0_pay3, k0_pay2]
  rw [column c (fun v => n (ix3 0 0 v)) hn (fun v hv => (hc v hv).2) w, hn w, sitofp_ofNat _ (by omega)]
  have inv : Ideal.div 1 ((c w : ℝ) : EReal) = ((1 / (c w : ℝ) : ℝ) : EReal) := by
    rw [Ideal.div_coe (Nat.cast_ne_zero.2 (by omega)), one_mul]
  have w2 : (((c w : ℝ) : EReal) - 1) * ((1 / (c w : ℝ) : ℝ) : EReal) = ((((c w : ℝ) - 1) * (1 / (c w : ℝ)) : ℝ) : EReal) := by
    rw [← EReal.coe_one, ← EReal.coe_sub, ← EReal.coe_mul]
  rw [inv, w2, ← weights_mean c f w h1 h2, ← sum_two f _ _ 512 _ (by omega), ← Fin.sum_univ_eq_sum_range]
  refine Finset.sum_congr rfl fun t _ => ?_
  rw [hf t, WordCmp.addi_ofNat, WordCmp.cmpi_eq_ofNat (by omega) (by omega), WordCmp.cmpi_eq_ofNat (by omega) (by omega),
    WordCmp.select_ofBool, WordCmp.select_ofBool]
  simp only [decide_eq_true_eq]

/-- THE EIGHT COPIES of the row's code, one for each row of a block, are one function of the row's pieces and counts. -/
theorem out_rows (x0 : Vec Ideal S8x512x768 .f32) (x1 : Vec Ideal S8x1x255 .i32) :
    out0_2 x0 x1 = View.canon [⟨r0_23, k0_pay3 (View.ld x0 r0_21) (View.ld x1 r0_22)⟩,
      ⟨r0_20, k0_pay3 (View.ld x0 r0_18) (View.ld x1 r0_19)⟩, ⟨r0_17, k0_pay3 (View.ld x0 r0_15) (View.ld x1 r0_16)⟩,
      ⟨r0_14, k0_pay3 (View.ld x0 r0_12) (View.ld x1 r0_13)⟩, ⟨r0_11, k0_pay3 (View.ld x0 r0_9) (View.ld x1 r0_10)⟩,
      ⟨r0_8, k0_pay3 (View.ld x0 r0_6) (View.ld x1 r0_7)⟩, ⟨r0_5, k0_pay3 (View.ld x0 r0_3) (View.ld x1 r0_4)⟩,
      ⟨r0_2, k0_pay3 (View.ld x0 r0_0) (View.ld x1 r0_1)⟩] := rfl

end Cert.KernelIdeal.Pool

end
-- ==== Proof.Pooled.lean ====
/-
  The answer both programs reach, stated over a batch of rows of pieces and a batch of rows of counts: entry (b, w, e) is
  the mean, over the pieces that word w of row b owns, of their entry e. With it, the range the counts are drawn from.
-/
module

public import proofs.«01_k».proof.Proof.Spans
public import Idealize.ShloMosaic.Lib.Pointwise
public import Idealize.ShloMosaic.Lib.WordCmp

@[expose] public section

set_option maxRecDepth 16384

noncomputable section

namespace Cert.Pool

open Idealize.ShloMosaic

/-- The counts of row `b`: how many pieces word `v` owns (none from word 255 on). -/
def counts (n : IVec ⟨2, ![64, 255]⟩ 32) (b : Fin 64) (v : ℕ) : ℕ :=
  if h : v < 255 then (n (ix2 b ⟨v, h⟩)).toNat else 0

/-- Entry `e` of piece `t` of row `b` (zero from piece 512 on). -/
def pieces (x : FVec Ideal ⟨3, ![64, 512, 768]⟩ .f32) (b : Fin 64) (e : Fin 768) (t : ℕ) : EReal :=
  if h : t < 512 then x (ix3 b ⟨t, h⟩ e) else 0

/-- THE POOLED BATCH: entry `(b, w, e)` is the mean over word `w`'s pieces in row `b`. -/
def pooled (x : FVec Ideal ⟨3, ![64, 512, 768]⟩ .f32) (n : IVec ⟨2, ![64, 255]⟩ 32) : FVec Ideal ⟨3, ![64, 255, 768]⟩ .f32 :=
  fun i => mean (counts n (i 0)) (pieces x (i 0) (i 2)) (i 1).val

/-- Every word owns one piece or two. -/
def InRange (n : IVec ⟨2, ![64, 255]⟩ 32) : Prop := ∀ (b : Fin 64) (v : Fin 255), 1 ≤ (n (ix2 b v)).toNat ∧ (n (ix2 b v)).toNat ≤ 2

/-- In range, the counts of a row are one or two at each of its 255 words. -/
theorem counts_range {n : IVec ⟨2, ![64, 255]⟩ 32} (h : InRange n) (b : Fin 64) : ∀ v < 255, 1 ≤ counts n b v ∧ counts n b v ≤ 2 := fun v hv => by
  unfold counts
  rw [dif_pos hv]
  exact h b ⟨v, hv⟩

/-- The word at `(b, v)` holds row `b`'s count for word `v`. -/
theorem counts_word (n : IVec ⟨2, ![64, 255]⟩ 32) (b : Fin 64) (v : Fin 255) : n (ix2 b v) = BitVec.ofNat 32 (counts n b v.val) := by
  unfold counts
  rw [dif_pos v.isLt]
  exact BitVec.eq_of_toNat_eq (by rw [BitVec.toNat_ofNat, Nat.mod_eq_of_lt (BitVec.isLt _)])

/-- The entry at `(b, t, e)` is entry `e` of row `b`'s piece `t`. -/
theorem pieces_entry (x : FVec Ideal ⟨3, ![64, 512, 768]⟩ .f32) (b : Fin 64) (t : Fin 512) (e : Fin 768) : x (ix3 b t e) = pieces x b e t.val := by
  unfold pieces
  rw [dif_pos t.isLt]

end Cert.Pool

end
-- ==== Proof.KernelValue.lean ====
/-
  The kernel's result array: each grid point writes a block of eight rows, each row the means over its words' pieces;
  the eight blocks fill the array, so with the counts in range the whole array is the pooled batch.
-/
module

public import proofs.«01_k».proof.Proof.KernelRow
public import proofs.«01_k».proof.Proof.Pooled
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Pool

open Cert.KernelIdeal Cert.KernelIdeal.Gen Cert.Pool
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window's block at grid point `t` is the `t`-th along the rows, whole along the other axes. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

/-- ONE ROW AGAINST THE BATCH: a row whose pieces and counts are row `j 0`'s of the arguments holds the pooled batch's row. -/
theorem row_pooled (X : FVec Ideal ⟨3, ![64, 512, 768]⟩ .f32) (n : IVec ⟨2, ![64, 255]⟩ 32) (hn : InRange n)
    (x : Vec Ideal S1x512x768 .f32) (k : Vec Ideal S1x1x255 .i32) (i : S1x255x768.Idx) (j : S64x255x768.Idx)
    (h1 : (i 1 : ℕ) = j 1) (h2 : (i 2 : ℕ) = j 2) (hx : ∀ (t : Fin 512) (e : Fin 768), x (ix3 0 t e) = X (ix3 (j 0) t e))
    (hk : ∀ v : Fin 255, k (ix3 0 0 v) = n (ix2 (j 0) v)) : k0_pay3 (F := Ideal) x k i = pooled X n j := by
  have hi : i = ix3 0 (j 1) (j 2) := by
    funext a
    match a with
    | ⟨0, _⟩ => exact Subsingleton.elim (α := Fin 1) _ _
    | ⟨1, _⟩ => exact Fin.ext h1
    | ⟨2, _⟩ => exact Fin.ext h2
  rw [hi]
  exact row_mean x k (counts n (j 0)) (pieces X (j 0) (j 2)) (j 1) (j 2) (fun v => (hk v).trans (counts_word n (j 0) v))
    (counts_range hn (j 0)) fun t => (hx t (j 2)).trans (pieces_entry X (j 0) t (j 2))

/-- THE RESULT ARRAY after the run is the pooled batch, the counts being in range. -/
theorem final (c : Dev nD) (hn : InRange (m ((c : Thread nD τ).loc main_arg1))) :
    (dats m 0 c).arrAt 2 cfg0.N = pooled (m ((c : Thread nD τ).loc main_arg0)) (m ((c : Thread nD τ).loc main_arg1)) := by
  refine (dats m 0 c).arrAt_eq_of_covers 2 _ (by decide +kernel) fun t hf y => ?_
  blk_simp
  rw [after0_2, out_rows]
  canon_tiles x h
  all_goals
    refine row_pooled _ _ hn _ _ _ _ ?_ ?_ (fun q e => ?_) fun v => ?_
    · blk_simp [idx t]
      omega
    · blk_simp [idx t]
      omega
    · pointwise
      blk_point [iblk, V, idx t]
    · pointwise
      blk_point [iblk, V, idx t]

end Cert.KernelIdeal.Pool

end
-- ==== Proof.RefOwner.lean ====
/-
  The reference's bookkeeping: the running sum of a row's counts is what comes before the next word; the number of running
  sums at most `t` is the number of words that have ended at piece `t`, which names the word piece `t` belongs to; the
  slot of a piece is its row's first slot plus that word.
-/
module

public import proofs.«01_k».proof.Proof.Pooled
public import proofs.«01_k».proof.Proof.Gen.ReferenceIdeal.Run
public import Idealize.ShloMosaic.Lib.IndicatorCount
public import Idealize.ShloMosaic.Lib.Routing.Ops
public import Idealize.ShloMosaic.Lib.Routing.Count

@[expose] public section

set_option maxRecDepth 16384

noncomputable section

namespace Cert.ReferenceIdeal.Pool

open Cert.ReferenceIdeal Cert.ReferenceIdeal.Gen Cert.Pool
open Idealize.ShloMosaic Idealize.ShloMosaic.TcCoe Idealize.SL.Sem

/-- The running sums of the counts along each row. -/
def ends (n : IVec S64x255 32) : IVec S64x255 32 :=
  Host.reduceWindow IntOp.addi ![1, 255] ![1, 1] ![0, 254] ![0, 0] n (broadcastInDim S_ ![] bcast_S_S_ (constantI S_ 32 0#32))
    reduceWindows_S64x255_S64x255_w1s1p0_0_w255s1p254_0 h_S_

/-- Position `p` of a window of one row is column `p` of it. -/
theorem window_place (p : Fin (⟨2, ![1, 255]⟩ : Shape).numel) :
    ((⟨2, ![1, 255]⟩ : Shape).rowMajor.symm p 0).val = 0 ∧ ((⟨2, ![1, 255]⟩ : Shape).rowMajor.symm p 1).val = p.val := by
  have e := Shape.rowMajor_val_two ((⟨2, ![1, 255]⟩ : Shape).rowMajor.symm p)
  rw [Equiv.apply_symm_apply] at e
  have h0 : ((⟨2, ![1, 255]⟩ : Shape).rowMajor.symm p 0).val < 1 := ((⟨2, ![1, 255]⟩ : Shape).rowMajor.symm p 0).isLt
  change p.val = ((⟨2, ![1, 255]⟩ : Shape).rowMajor.symm p 0).val * 255 + _ at e
  exact ⟨by omega, by omega⟩

/-- THE RUNNING SUM at word `w` holds the number of pieces before word `w + 1`. -/
theorem ends_at (n : IVec S64x255 32) (b : Fin 64) (w : Fin 255) : ends n (ix2 b w) = BitVec.ofNat 32 (before (counts n b) (w + 1)) := by
  have size : (⟨2, ![1, 255]⟩ : Shape).numel = 255 := by decide
  have hw := w.isLt
  unfold ends Host.reduceWindow
  refine (Routing.foldl_addi_ofNat _ _ (fun p => if 254 ≤ w.val + p.val then counts n b (w.val + p.val - 254) else 0)
    (fun p _ => ?_) _ 0 rfl).trans ?_
  · obtain ⟨e0, e1⟩ := window_place p
    have hp : p.val < 255 := lt_of_lt_of_eq p.isLt size
    by_cases low : 254 ≤ w.val + p.val
    · rw [if_pos low, dif_pos, ← counts_word n b ⟨w.val + p.val - 254, by omega⟩]
      · refine congrArg n (funext fun a => Fin.ext ?_)
        match a with
        | ⟨0, _⟩ =>
          show b.val * 1 + ((⟨2, ![1, 255]⟩ : Shape).rowMajor.symm p 0).val - 0 = b.val
          omega
        | ⟨1, _⟩ =>
          show w.val * 1 + ((⟨2, ![1, 255]⟩ : Shape).rowMajor.symm p 1).val - 254 = w.val + p.val - 254
          omega
      · intro a
        match a with
        | ⟨0, _⟩ =>
          show 0 ≤ b.val * 1 + ((⟨2, ![1, 255]⟩ : Shape).rowMajor.symm p 0).val
            ∧ b.val * 1 + ((⟨2, ![1, 255]⟩ : Shape).rowMajor.symm p 0).val - 0 < 64
          omega
        | ⟨1, _⟩ =>
          show 254 ≤ w.val * 1 + ((⟨2, ![1, 255]⟩ : Shape).rowMajor.symm p 1).val
            ∧ w.val * 1 + ((⟨2, ![1, 255]⟩ : Shape).rowMajor.symm p 1).val - 254 < 255
          omega
    · rw [if_neg low, dif_neg]
      · rfl
      · intro h
        have h1 : 254 ≤ w.val * 1 + ((⟨2, ![1, 255]⟩ : Shape).rowMajor.symm p 1).val := (h 1).1
        omega
  · rw [Nat.zero_add, Routing.map_finRange_val _ (fun p => if 254 ≤ w.val + p then counts n b (w.val + p - 254) else 0), size,
      Routing.sum_window (counts n b) 254 w.val (by omega)]
    rfl

/-- The words that have ended at each piece, counted: the running sums compared with the piece's place, summed over the words. -/
def owner (n : IVec S64x255 32) : IVec S64x510 32 :=
  Host.reduce IntOp.addi (extui 32 (cmpi .sle (broadcastInDim S64x255x510 ![0, 1, 2] bcast_S64x255x1_S64x255x510_0_1_2
      (broadcastInDim S64x255x1 ![0, 1] bcast_S64x255_S64x255x1_0_1 (ends n)))
    (broadcastInDim S64x255x510 ![0, 1, 2] bcast_S1x1x510_S64x255x510_0_1_2 (broadcastInDim S1x1x510 ![2] bcast_S510_S1x1x510_2 (iotaInDim S510 32 0))))
    natLt_1_32) (constantI S_ 32 0#32) reducesTo_S64x255x510_S64x510_d1 h_S_

/-- THE WORD OF A PIECE: at `(b, t)` the count is the number of row `b`'s words that have ended at piece `t`. -/
theorem owner_at (n : IVec S64x255 32) (hn : InRange n) (b : Fin 64) (t : Fin 510) :
    owner n (ix2 b t) = BitVec.ofNat 32 (ended (counts n b) 255 t) := by
  classical
  have hdrop : ∀ i : S64x255x510.Idx, reducesTo_S64x255x510_S64x510_d1.drop i = ix2 b t ↔ i 0 = b ∧ i 2 = t := fun i => by
    have v0 : (reducesTo_S64x255x510_S64x510_d1.drop i 0 : ℕ) = i 0 := Shape.ReducesTo.drop_apply_val _ i 0
    have v1 : (reducesTo_S64x255x510_S64x510_d1.drop i 1 : ℕ) = i 2 := Shape.ReducesTo.drop_apply_val _ i 1
    constructor
    · intro e
      rw [e] at v0 v1
      exact ⟨Fin.ext v0.symm, Fin.ext v1.symm⟩
    · rintro ⟨e0, e2⟩
      funext a
      match a with
      | ⟨0, _⟩ => exact Fin.ext (v0.trans (congrArg Fin.val e0))
      | ⟨1, _⟩ => exact Fin.ext (v1.trans (congrArg Fin.val e2))
  have bit : ∀ v : Fin 255, IntOp.cmpi .sle (ends n (ix2 b v)) (BitVec.ofNat 32 t) = 1#1 ↔ before (counts n b) (v + 1) ≤ t := fun v => by
    have := before_le (counts n b) 255 (fun u hu => (counts_range hn b u hu).2) (v + 1) v.isLt
    have := v.isLt
    rw [ends_at, WordCmp.cmpi_sle_ofNat_eq_one_iff (by omega) (by omega)]
  have place : ∀ v : Fin 255, cmpi .sle (broadcastInDim S64x255x510 ![0, 1, 2] bcast_S64x255x1_S64x255x510_0_1_2
        (broadcastInDim S64x255x1 ![0, 1] bcast_S64x255_S64x255x1_0_1 (ends n)))
      (broadcastInDim S64x255x510 ![0, 1, 2] bcast_S1x1x510_S64x255x510_0_1_2 (broadcastInDim S1x1x510 ![2] bcast_S510_S1x1x510_2 (iotaInDim S510 32 0)))
      (ix3 b v t) = 1#1 ↔ before (counts n b) (v + 1) ≤ t := fun v => by
    rw [← bit v]
    pointwise
  have whole : ∀ i : S64x255x510.Idx, reducesTo_S64x255x510_S64x510_d1.drop i = ix2 b t → i = ix3 b (i 1) t := fun i hi => by
    obtain ⟨e0, e2⟩ := (hdrop i).1 hi
    funext a
    match a with
    | ⟨0, _⟩ => exact e0
    | ⟨1, _⟩ => rfl
    | ⟨2, _⟩ => exact e2
  unfold owner
  rw [Host.reduce_eq_fold]
  refine (IndicatorCount.fold_addi_setWidth_eq_card _ _).trans (congrArg (BitVec.ofNat 32) ?_)
  refine Eq.trans ?_ (Routing.card_filter_fin 255 fun v => before (counts n b) (v + 1) ≤ t)
  rw [Finset.filter_filter]
  refine Finset.card_bij (fun i _ => (i 1 : Fin 255)) (fun i hi => ?_) (fun i hi j hj e => ?_) fun v hv => ?_
  · obtain ⟨h, ones⟩ := (Finset.mem_filter.1 hi).2
    rw [whole i h] at ones
    exact Finset.mem_filter.2 ⟨Finset.mem_univ _, (place (i 1)).1 ones⟩
  · rw [whole i (Finset.mem_filter.1 hi).2.1, whole j (Finset.mem_filter.1 hj).2.1]
    exact congrArg (fun v : Fin 255 => ix3 b v t) e
  · exact ⟨ix3 b v t, Finset.mem_filter.2 ⟨Finset.mem_univ _, (hdrop _).2 ⟨rfl, rfl⟩, (place v).2 (Finset.mem_filter.1 hv).2⟩, rfl⟩

/-- The slot each piece of the batch is added into, one word a piece: its word plus 256 slots for each row before. -/
def slots (n : IVec S64x255 32) : IVec S32640x1 32 :=
  broadcastInDim S32640x1 ![0] bcast_S32640_S32640x1_0 (shapeCast S32640 (addi (owner n) (broadcastInDim S64x510 ![0, 1] bcast_S64x1_S64x510_0_1
    (muli (broadcastInDim S64x1 ![0] bcast_S64_S64x1_0 (iotaInDim S64 32 0)) (broadcastInDim S64x1 ![] bcast_S_S64x1 (constantI S_ 32 256#32)))))
    shapeCasts_S64x510_S32640)

/-- THE SLOT of piece `p` of the batch, which is piece `p % 510` of row `p / 510`. -/
theorem slots_at (n : IVec S64x255 32) (hn : InRange n) (p : Fin 32640) (hb : p.val / 510 < 64) (ht : p.val % 510 < 510) :
    slots n (ix2 p 0) = BitVec.ofNat 32 (ended (counts n ⟨p.val / 510, hb⟩) 255 (p.val % 510) + p.val / 510 * 256) := by
  have e := owner_at n hn ⟨p.val / 510, hb⟩ ⟨p.val % 510, ht⟩
  pointwise [slots]
  rw [e, WordCmp.muli_ofNat, WordCmp.addi_ofNat]

end Cert.ReferenceIdeal.Pool

end
-- ==== Proof.RefValue.lean ====
/-
  The reference's result: the pieces are added into slots, the slot of word w of row b receives exactly the pieces that
  word owns, and the quotient by the word's count is their mean; so with the counts in range the result is the pooled batch.
-/
module

public import proofs.«01_k».proof.Proof.RefOwner
public import Idealize.ShloMosaic.Lib.Routing.OpsPair
public import Idealize.ShloMosaic.Lib.Pipeline.ValueKit

@[expose] public section

set_option maxRecDepth 16384

noncomputable section

namespace Cert.ReferenceIdeal.Pool

open Cert.ReferenceIdeal Cert.ReferenceIdeal.Gen Cert.Pool
open Idealize.ShloMosaic Idealize.ShloMosaic.TcCoe Idealize.SL.Sem

/-- WHERE AN UPDATE LANDS: entry `(p, q)` of the updates lands at `(r, e)` exactly when its slot word, read signed, is `r` and `q` is `e`. -/
theorem lands (idx : IVec S32640x1 32) (p : Fin 32640) (q : Fin 768) (r : Fin 16384) (e : Fin 768) :
    scatter_S16384x768_S32640x1_S32640x768_1_0_0_1.resultIdx? (ix2 p q) idx = some (ix2 r e) ↔ (idx (ix2 p 0)).toInt = r.val ∧ q = e := by
  have start0 : scatter_S16384x768_S32640x1_S32640x768_1_0_0_1.start (ix2 p q) idx 0 = (idx (ix2 p 0)).toInt := by
    unfold ScatterDims.start
    rw [dif_pos (by decide)]
    refine congrArg (fun i => (idx i).toInt) (funext fun a => ?_)
    match a with
    | ⟨0, _⟩ => rfl
    | ⟨1, _⟩ => exact Subsingleton.elim (α := Fin 1) _ _
  have start1 : scatter_S16384x768_S32640x1_S32640x768_1_0_0_1.start (ix2 p q) idx 1 = 0 := by
    unfold ScatterDims.start
    rw [dif_neg (by decide)]
  have window0 : scatter_S16384x768_S32640x1_S32640x768_1_0_0_1.window (ix2 p q) 0 = 0 := by
    unfold ScatterDims.window
    rw [dif_neg (by decide)]
  have window1 : scatter_S16384x768_S32640x1_S32640x768_1_0_0_1.window (ix2 p q) 1 = q.val := by
    unfold ScatterDims.window
    rw [dif_pos (by decide)]
    rfl
  rw [Routing.resultIdx?_eq_some]
  constructor
  · intro h
    have h0 := h 0
    have h1 := h 1
    rw [start0, window0] at h0
    rw [start1, window1] at h1
    change _ = (r.val : ℤ) at h0
    change _ = (e.val : ℤ) at h1
    exact ⟨by omega, Fin.ext (by omega)⟩
  · rintro ⟨h0, rfl⟩ a
    match a with
    | ⟨0, _⟩ =>
      refine (congrArg₂ (fun (x : ℤ) (y : ℕ) => x + y) start0 window0).trans ?_
      rw [h0]
      rfl
    | ⟨1, _⟩ =>
      refine (congrArg₂ (fun (x : ℤ) (y : ℕ) => x + y) start1 window1).trans ?_
      exact Int.zero_add _

/-- THE SCATTER READ AT A SLOT: from zeros, slot `r` receives at entry `e` the sum of the entries `e` of the updates whose slot is `r`. -/
theorem scatter_sum (z : FVec Ideal S16384x768 .f32) (hz : ∀ i, z i = (0 : EReal)) (idx : IVec S32640x1 32) (upd : FVec Ideal S32640x768 .f32)
    (r : Fin 16384) (e : Fin 768) :
    Host.scatterAdd (F := Ideal) scatter_S16384x768_S32640x1_S32640x768_1_0_0_1 z idx upd (ix2 r e)
      = ∑ p : Fin 32640, if (idx (ix2 p 0)).toInt = r.val then (upd (ix2 p e) : EReal) else 0 := by
  show z (ix2 r e) + ∑ j ∈ Finset.univ.filter (fun j => scatter_S16384x768_S32640x1_S32640x768_1_0_0_1.resultIdx? j idx = some (ix2 r e)),
    (upd j : EReal) = _
  rw [hz, zero_add, Finset.sum_filter, sum_idx2]
  refine Finset.sum_congr rfl fun p _ => ?_
  simp only [lands]
  by_cases h : (idx (ix2 p 0)).toInt = r.val
  · simp only [h, true_and, if_true]
    rw [Finset.sum_ite_eq' Finset.univ e, if_pos (Finset.mem_univ _)]
  · simp only [h, false_and, if_false, Finset.sum_const_zero]

/-- The reference's result as a function of the pieces and the counts. -/
def result (x : FVec Ideal S64x512x768 .f32) (n : IVec S64x255 32) : FVec Ideal S64x255x768 .f32 :=
  Host.divf (extractStridedSlice S64x255x768 ![0, 0, 0] (shapeCast S64x256x768 (Host.scatterAdd scatter_S16384x768_S32640x1_S32640x768_1_0_0_1
      (broadcastInDim S16384x768 ![] bcast_S_S16384x768 (constant S_ .f32 0x00000000#32)) (slots n)
      (shapeCast S32640x768 (extractStridedSlice S64x510x768 ![0, 1, 0] x slices_S64x512x768_S64x510x768_0_1_0) shapeCasts_S64x510x768_S32640x768))
      shapeCasts_S16384x768_S64x256x768) slices_S64x256x768_S64x255x768_0_0_0)
    (broadcastInDim S64x255x768 ![0, 1, 2] bcast_S64x255x1_S64x255x768_0_1_2 (sitofp .f32 (broadcastInDim S64x255x1 ![0, 1] bcast_S64x255_S64x255x1_0_1 n)))

/-- THE SUM IN A WORD'S SLOT: of all the batch's pieces, word `w` of row `b` keeps its own. -/
theorem slot_sum (x : FVec Ideal S64x512x768 .f32) (n : IVec S64x255 32) (hn : InRange n) (b : Fin 64) (w : Fin 255) (e : Fin 768) :
    (∑ p : Fin 32640, if (slots n (ix2 p 0)).toInt = ((b.val * 256 + w.val : ℕ) : ℤ)
        then pieces x ⟨p.val / 510, by omega⟩ e (p.val % 510 + 1) else 0)
      = ∑ k ∈ Finset.range (counts n b w), pieces x b e (before (counts n b) w + k + 1) := by
  have hw := w.isLt
  have lt := before_le (counts n b) 255 (fun u hu => (counts_range hn b u hu).2) (w + 1) (by omega)
  rw [before_succ] at lt
  refine (Fin.sum_divmod_congr (A := 64) (S := 510) (f := fun a t => if a = b then
    (if before (counts n b) w ≤ t.val ∧ t.val < before (counts n b) w + counts n b w then pieces x b e (t.val + 1) else 0) else 0)
    fun p ha hs => ?_).trans ?_
  · rw [slots_at n hn p ha hs]
    have le := ended_le (counts n ⟨p.val / 510, ha⟩) 255 (p.val % 510)
    rw [WordCmp.toInt_ofNat_of_lt (w := 32) (by omega)]
    by_cases h : (⟨p.val / 510, ha⟩ : Fin 64) = b
    · have hv : p.val / 510 = b.val := congrArg Fin.val h
      rw [if_pos h, h]
      refine if_congr (Iff.trans ?_ (ended_eq_iff (counts n b) 255 (p.val % 510) w hw)) rfl rfl
      omega
    · have hv : p.val / 510 ≠ b.val := fun q => h (Fin.ext q)
      rw [if_neg h, if_neg]
      omega
  · simp only [Finset.sum_ite_irrel, Finset.sum_const_zero]
    rw [Finset.sum_ite_eq' Finset.univ b, if_pos (Finset.mem_univ _),
      Fin.sum_univ_eq_sum_range (fun t => if before (counts n b) w ≤ t ∧ t < before (counts n b) w + counts n b w then pieces x b e (t + 1) else 0) 510,
      sum_span (counts n b) (fun t => pieces x b e (t + 1)) 510 w (by omega)]

/-- One entry of the reference's result is the mean over its word's pieces. -/
theorem result_at (x : FVec Ideal S64x512x768 .f32) (n : IVec S64x255 32) (hn : InRange n) (b : Fin 64) (w : Fin 255) (e : Fin 768) :
    result x n (ix3 b w e) = mean (counts n b) (pieces x b e) w := by
  obtain ⟨h1, h2⟩ := counts_range hn b w w.isLt
  pointwise [result]
  rw [scatter_sum _ (fun i => by pointwise) (slots n) _ _ e]
  have sum := slot_sum x n hn b w e
  have upd : ∀ p : Fin 32640, (shapeCast S32640x768 (extractStridedSlice S64x510x768 ![0, 1, 0] x slices_S64x512x768_S64x510x768_0_1_0)
      shapeCasts_S64x510x768_S32640x768 (ix2 p e) : EReal) = pieces x ⟨p.val / 510, by omega⟩ e (p.val % 510 + 1) := fun p => by
    refine Eq.trans ?_ (pieces_entry x ⟨p.val / 510, by omega⟩ ⟨p.val % 510 + 1, by omega⟩ e)
    pointwise
    exact congrArg (fun q : Fin 512 => x (ix3 _ q e)) (Fin.ext (Nat.add_comm _ _))
  simp only [upd]
  rw [counts_word n b w]
  refine (congrArg₂ Ideal.div sum (show FloatOps.sitofp (F := Ideal) FTy.f32 (BitVec.ofNat 32 (counts n b w)) = ((counts n b w : ℝ) : EReal) from ?_)).trans
    (Ideal.div_coe (Nat.cast_ne_zero.2 (by omega)) _)
  show (((BitVec.ofNat 32 (counts n b w)).toInt : ℝ) : EReal) = _
  rw [WordCmp.toInt_ofNat_of_lt (w := 32) (by omega), Int.cast_natCast]

/-- THE REFERENCE IS THE POOLED BATCH, the counts being in range. -/
theorem result_eq (x : FVec Ideal S64x512x768 .f32) (n : IVec S64x255 32) (hn : InRange n) : result x n = pooled x n := by
  funext i
  rw [eq_ix3 i]
  exact result_at x n hn (i 0) (i 1) (i 2)

end Cert.ReferenceIdeal.Pool

end
-- ==== Proof.Range.lean ====
/-
  What the precondition says: at every row and word the count is one or two.
-/
module

public import proofs.«01_k».proof.Proof.Pooled
public import proofs.«01_k».proof.Proof.Gen.Pre_counts_in_range
public import Idealize.ShloMosaic.Lib.ReduceAll

@[expose] public section

set_option maxRecDepth 16384

noncomputable section

namespace Cert.Pre_counts_in_range

open Idealize.ShloMosaic Cert.Pool

/-- A word whose signed reading is at least one and at most two reads so unsigned. -/
theorem word_range (x : BitVec 32) (h : IntOp.andi (IntOp.cmpi .sge x 1#32) (IntOp.cmpi .sle x 2#32) = 1#1) : 1 ≤ x.toNat ∧ x.toNat ≤ 2 := by
  rw [WordCmp.cmpi_sge_eq, WordCmp.cmpi_sle_eq, WordCmp.andi_ofBool, WordCmp.ofBool_eq_one_iff, Bool.and_eq_true, decide_eq_true_eq, decide_eq_true_eq,
    show (1#32 : BitVec 32).toInt = 1 from rfl, show (2#32 : BitVec 32).toInt = 2 from rfl, BitVec.toInt_eq_toNat_cond] at h
  have := x.isLt
  split at h <;> omega

/-- THE PRECONDITION DECODED: where it holds, every count is one or two. -/
theorem inRange [Facts] (x : FVec Ideal S64x512x768 .f32) (n : IVec S64x255 32) (h : fn (F := Ideal) x n = fun _ => 1#1) : InRange n := fun b v => by
  have : Subsingleton S_.Idx := ⟨fun i j => funext fun a => a.elim0⟩
  refine word_range _ ?_
  have e := Host.reduce_andi_all _ _ _ _ ix0 (congrFun h ix0) (ix2 b v)
  rw [← e]
  pointwise

end Cert.Pre_counts_in_range

end
-- ==== Proof.lean ====
/-
  The claims about mean-pooling pieces into words: the frames of the kernel, the idealized kernel and the reference; that
  the idealized kernel is the kernel's own text; and that, with one or two pieces a word, the idealized kernel and the
  reference end with the same array, the pooled batch (Proof/Pooled.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_counts_in_range
public import proofs.«01_k».proof.Proof.Gen.KernelIdeal.Value
public import proofs.«01_k».proof.Proof.Gen.ReferenceIdeal.Run
public import proofs.«01_k».proof.Proof.KernelValue
public import proofs.«01_k».proof.Proof.RefValue
public import proofs.«01_k».proof.Proof.Range
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run, for any float values, ends with the arguments unchanged and every counter at zero. -/
theorem kernel_frame : Cert.quiescent_Kernel := fun m ρ _ => Cert.Kernel.Gen.frame m ρ

/-- So does the idealized kernel's. -/
theorem ideal_frame : Cert.quiescent_KernelIdeal := fun m ρ _ => Cert.KernelIdeal.Gen.frame m ρ

/-- So does the idealized kernel's where the counts are in range. -/
theorem ideal_frame_pre : Cert.quiescent_KernelIdeal_pre_counts_in_range := fun m ρ _ => Cert.KernelIdeal.Gen.frame m ρ

/-- The reference's run ends with the arguments unchanged; it declares no counter. -/
theorem reference_frame : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- So does the reference's where the counts are in range. -/
theorem reference_frame_pre : Cert.quiescent_ReferenceIdeal_pre_counts_in_range := fun m ρ _ => reference_frame m ρ trivial

/-- The idealized kernel is the kernel's own text. -/
theorem preserved : Cert.preserves_Kernel_KernelIdeal := trivial

/-- THE VALUE CLAIM: from arguments that agree, with the counts in range, the idealized kernel and the reference both end
    with the pooled batch: at each row, word and entry the mean over the word's pieces. -/
theorem algebraic : Cert.algebraic_KernelIdeal_ReferenceIdeal_pre_counts_in_range := by
  intro m ρ m' ρ' hpre hagree
  have range : ∀ c : Dev Cert.KernelIdeal.nD, Cert.Pool.InRange (m ((c.tc : Thread Cert.KernelIdeal.nD Cert.KernelIdeal.τ).loc Cert.KernelIdeal.main_arg1)) :=
    fun c => Cert.Pre_counts_in_range.inRange _ _ (hpre c)
  refine ⟨fun c => Cert.Pool.pooled (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Pool.final m c (range c)), (h c).2⟩) (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    rw [(hagree c).1, (hagree c).2]
    exact Cert.ReferenceIdeal.Pool.result_eq _ _ (range c)

/-- Every claim of the statement. -/
theorem claim : Cert.Claim := ⟨Cert.Kernel.Gen.facts, Cert.KernelIdeal.Gen.facts, Cert.ReferenceIdeal.Gen.facts, Cert.Pre_counts_in_range.Gen.facts,
  kernel_frame, ideal_frame, ideal_frame_pre, reference_frame, reference_frame_pre, preserved, algebraic⟩

end Cert.Proof

end
